-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x20480 : Shape := ⟨3, ![2, 6144, 20480]⟩
abbrev S2x6144x1 : Shape := ⟨3, ![2, 6144, 1]⟩
abbrev S20480x7168 : Shape := ⟨2, ![20480, 7168]⟩
abbrev S7168 : Shape := ⟨1, ![7168]⟩
abbrev S2x6144x7168 : Shape := ⟨3, ![2, 6144, 7168]⟩
abbrev S12288x20480 : Shape := ⟨2, ![12288, 20480]⟩
abbrev S12288x1 : Shape := ⟨2, ![12288, 1]⟩
abbrev S1x7168 : Shape := ⟨2, ![1, 7168]⟩
abbrev S12288x7168 : Shape := ⟨2, ![12288, 7168]⟩
abbrev S1024x2048 : Shape := ⟨2, ![1024, 2048]⟩
abbrev S1024x1 : Shape := ⟨2, ![1024, 1]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 11
  | .vmem => 13
  | .smem => 0
  | _ => 0

abbrev bufTy : (tb : Table) → Fin (tcTables nBuf tb) → BufTy
  | .hbm, ⟨0, _⟩ => ⟨S2x6144x20480, .fp8e4m3⟩
  | .hbm, ⟨1, _⟩ => ⟨S2x6144x1, .f32⟩
  | .hbm, ⟨2, _⟩ => ⟨S20480x7168, .fp8e4m3⟩
  | .hbm, ⟨3, _⟩ => ⟨S7168, .f32⟩
  | .hbm, ⟨4, _⟩ => ⟨S2x6144x7168, .bf16⟩
  | .hbm, ⟨5, _⟩ => ⟨S12288x20480, .fp8e4m3⟩
  | .hbm, ⟨6, _⟩ => ⟨S12288x1, .f32⟩
  | .hbm, ⟨7, _⟩ => ⟨S1x7168, .f32⟩
  | .hbm, ⟨8, _⟩ => ⟨S12288x7168, .bf16⟩
  | .hbm, ⟨9, _⟩ => ⟨S12288x7168, .bf16⟩
  | .hbm, ⟨10, _⟩ => ⟨S2x6144x7168, .bf16⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x1, .f32⟩
  | .local _ .vmem, ⟨3, _⟩ => ⟨S1024x1, .f32⟩
  | .local _ .vmem, ⟨4, _⟩ => ⟨S2048x1024, .fp8e4m3⟩
  | .local _ .vmem, ⟨5, _⟩ => ⟨S2048x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S2x6144x20480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![12, 7, 10], ![false, false, false]⟩

def k0_cond3 (i : grid0.Coords) : BitVec 1 :=
  let arg2 : BitVec 32 := BitVec.ofNat 32 (i 2).val
  let c9_i32 : BitVec 32 := 9#32
  let v10 : BitVec 1 := Scalar.cmpi .eq arg2 c9_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x6144x20480 : Shape := ⟨3, ![2, 6144, 20480]⟩
abbrev S2x6144x1 : Shape := ⟨3, ![2, 6144, 1]⟩
abbrev S20480x7168 : Shape := ⟨2, ![20480, 7168]⟩
abbrev S7168 : Shape := ⟨1, ![7168]⟩
abbrev S2x6144x7168 : Shape := ⟨3, ![2, 6144, 7168]⟩
abbrev S1x1x7168 : Shape := ⟨3, ![1, 1, 7168]⟩

abbrev nBuf : Space → Nat
  | .hbm => 6
  | .vmem => 6
  | .smem => 0
  | _ => 0

abbrev bufTy : (tb : Table) → Fin (tcTables nBuf tb) → BufTy
  | .hbm, ⟨0, _⟩ => ⟨S2x6144x20480, .fp8e4m3⟩
  | .hbm, ⟨1, _⟩ => ⟨S2x6144x1, .f32⟩
  | .hbm, ⟨2, _⟩ => ⟨S20480x7168, .fp8e4m3⟩
  | .hbm, ⟨3, _⟩ => ⟨S7168, .f32⟩
  | .hbm, ⟨4, _⟩ => ⟨S2x6144x7168, .bf16⟩
  | .hbm, ⟨5, _⟩ => ⟨S2x6144x7168, .bf16⟩
  | .local _ .vmem, ⟨0, _⟩ => ⟨S2x6144x20480, .fp8e4m3⟩
  | .local _ .vmem, ⟨1, _⟩ => ⟨S2x6144x1, .f32⟩
  | .local _ .vmem, ⟨2, _⟩ => ⟨S20480x7168, .fp8e4m3⟩
  | .local _ .vmem, ⟨3, _⟩ => ⟨S7168, .f32⟩
  | .local _ .vmem, ⟨4, _⟩ => ⟨S2x6144x7168, .bf16⟩
  | .local _ .vmem, ⟨5, _⟩ => ⟨S2x6144x7168, .bf16⟩
  | _, _ => ⟨S2x6144x20480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x6144x20480 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x6144x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelCase.lean ====
/-
  What one grid point of the kernel computes, at any float values: which vector each of the three
  cases of the body leaves in the accumulator, and which one the last point of a run of ten leaves
  in the output block.
-/
module

public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Quiescent

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

/-- The offset of every load and store of the body is zero on both axes. -/
theorem hz : (![0, 0] : Fin 2 → Nat) = fun _ => 0 := funext fun a => by fin_cases a <;> rfl

section
variable (c : Dev nD) (i : grid0.Coords)
  (arg3 : Memref sig .tc .vmem S1024x2048 .fp8e4m3) (harg3 : arg3.IsWhole)
  (arg4 : Memref sig .tc .vmem S1024x1 .f32) (harg4 : arg4.IsWhole)
  (arg5 : Memref sig .tc .vmem S2048x1024 .fp8e4m3) (harg5 : arg5.IsWhole)
  (arg6 : Memref sig .tc .vmem S1x1024 .f32) (harg6 : arg6.IsWhole)
  (arg7 : Memref sig .tc .vmem S1024x1024 .bf16) (harg7 : arg7.IsWhole)
  (arg8 : Memref sig .tc .vmem S1024x1024 .bf16) (harg8 : arg8.IsWhole)
  (arg9 : Memref sig .tc .vmem S1024x1024 .f32) (harg9 : arg9.IsWhole)
  (x0 : Vec F S1024x2048 .fp8e4m3) (x1 : Vec F S1024x1 .f32) (x2 : Vec F S2048x1024 .fp8e4m3)
  (x3 : Vec F S1x1024 .f32) (x4 : Vec F S1024x1024 .bf16) (xs0 : Vec F S1024x1024 .f32)

/-- At the first point of a run the accumulator receives the point's block product. -/
theorem acc_A (hc0 : cond0_0 i) (hc1 : ¬cond0_1 i) (hc2 : ¬cond0_2 i) :
    sout0_A_0 c i arg3 harg3 arg4 harg4 arg5 harg5 arg6 harg6 arg7 harg7 arg8 harg8 arg9 harg9 hc0 hc1 hc2 x0 x1 x2 x3 x4
      = k0_pay2 x0 x2 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  unfold kernelRun0_A; dsimp only
  rw [View.canon_unit_zero hz]
  simp only [View.readAt_eq_ld, harg3.read_unread, harg5.read_unread, View.ld_unit_zero (S := S1024x2048) hz,
    View.ld_unit_zero (S := S2048x1024) hz]

/-- At a middle point of a run the accumulator receives its old contents plus the point's block product. -/
theorem acc_B (hc0 : ¬cond0_0 i) (hc1 : cond0_1 i) (hc2 : ¬cond0_2 i) :
    sout0_B_0 c i arg3 harg3 arg4 harg4 arg5 harg5 arg6 harg6 arg7 harg7 arg8 harg8 arg9 harg9 hc0 hc1 hc2 x0 x1 x2 x3 x4 xs0
      = k0_pay3 x0 x2 xs0 := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 x4 xs0)]
  unfold kernelRun0_B; dsimp only
  rw [View.canon_unit_zero hz]
  simp only [View.readAt_eq_ld, harg3.read_unread, harg5.read_unread, harg9.read_unread, View.ld_unit_zero (S := S1024x2048) hz,
    View.ld_unit_zero (S := S2048x1024) hz, View.ld_unit_zero (S := S1024x1024) hz]

/-- At the last point of a run the accumulator receives its old contents plus the point's block product, -/
theorem acc_C (hc0 : ¬cond0_0 i) (hc1 : cond0_1 i) (hc2 : cond0_2 i) :
    sout0_C_0 c i arg3 harg3 arg4 harg4 arg5 harg5 arg6 harg6 arg7 harg7 arg8 harg8 arg9 harg9 hc0 hc1 hc2 x0 x1 x2 x3 x4 xs0
      = k0_pay3 x0 x2 xs0 := by
  unfold sout0_C_0
  rw [View.read_writes_eq_canon _ _ _ (scover0_C_0 c i arg3 harg3 arg4 harg4 arg5 harg5 arg6 harg6 arg7 harg7 arg8 harg8 arg9 harg9 hc0 hc1 hc2 x0 x1 x2 x3 x4 xs0)]
  unfold kernelRun0_C; dsimp only
  sl_unfold_words
  rw [View.canon_unit_zero hz]
  simp only [View.readAt_eq_ld, harg3.read_unread, harg5.read_unread, harg9.read_unread, View.ld_unit_zero (S := S1024x2048) hz,
    View.ld_unit_zero (S := S2048x1024) hz, View.ld_unit_zero (S := S1024x1024) hz]

/-- and the output block receives the accumulator so updated, scaled by row and by column, plus the residual block. -/
theorem out_C (hc0 : ¬cond0_0 i) (hc1 : cond0_1 i) (hc2 : cond0_2 i) :
    out0_C_5 c i arg3 harg3 arg4 harg4 arg5 harg5 arg6 harg6 arg7 harg7 arg8 harg8 arg9 harg9 hc0 hc1 hc2 x0 x1 x2 x3 x4 xs0
      = k0_pay4 (k0_pay3 x0 x2 xs0) x1 x3 x4 := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xs0)]
  unfold kernelRun0_C; dsimp only
  sl_unfold_words
  rw [View.canon_unit_zero hz]
  rw [View.readCov_unit_zero (S := S1024x1024) _ hz]
  simp only [View.readAt_eq_ld, harg3.read_unread, harg4.read_unread, harg5.read_unread,
    harg6.read_unread, harg7.read_unread, harg9.read_unread,
    View.ld_unit_zero (S := S1024x2048) hz, View.ld_unit_zero (S := S2048x1024) hz, View.ld_unit_zero (S := S1024x1024) hz,
    View.ld_unit_zero (S := S1024x1) hz, View.ld_unit_zero (S := S1x1024) hz]

end

end Cert.KernelIdeal.Hand

end
-- ==== Proof.KernelAcc.lean ====
/-
  The kernel's accumulator and output block at the ideal instance, entry by entry: after the point
  with block row `i`, block column `j` and step `k` the accumulator holds the products summed over
  the first `2048 * (k + 1)` positions of the contracted axis, and at step 9 the output block holds
  the whole sum, scaled by row and by column, plus the residual.
-/
module

public import proofs.«01_k».proof.Proof.KernelCase
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

/-! ### The body's values at an entry -/

/-- The block product at entry `(a, b)`. -/
theorem pay1_apply (x0 : Vec Ideal S1024x2048 .fp8e4m3) (x2 : Vec Ideal S2048x1024 .fp8e4m3) (a b : Fin 1024) :
    k0_pay1 (F := Ideal) x0 x2 (ix2 a b) = ∑ k : Fin 2048, x0 (ix2 a k) * x2 (ix2 k b) := by
  pointwise [k0_pay1]

/-- What the first point of a run stores, at entry `(a, b)`. -/
theorem pay2_apply (x0 : Vec Ideal S1024x2048 .fp8e4m3) (x2 : Vec Ideal S2048x1024 .fp8e4m3) (a b : Fin 1024) :
    k0_pay2 (F := Ideal) x0 x2 (ix2 a b) = ∑ k : Fin 2048, x0 (ix2 a k) * x2 (ix2 k b) := by
  pointwise [k0_pay2, k0_pay1]

/-- What a later point of a run stores, at entry `(a, b)`. -/
theorem pay3_apply (x0 : Vec Ideal S1024x2048 .fp8e4m3) (x2 : Vec Ideal S2048x1024 .fp8e4m3)
    (v : Vec Ideal S1024x1024 .f32) (a b : Fin 1024) :
    k0_pay3 (F := Ideal) x0 x2 v (ix2 a b) = v (ix2 a b) + ∑ k : Fin 2048, x0 (ix2 a k) * x2 (ix2 k b) := by
  pointwise [k0_pay3, k0_pay1]

/-- What the last point of a run writes to the output block, at entry `(a, b)`. -/
theorem pay4_apply (v : Vec Ideal S1024x1024 .f32) (x1 : Vec Ideal S1024x1 .f32) (x3 : Vec Ideal S1x1024 .f32)
    (x4 : Vec Ideal S1024x1024 .bf16) (a b : Fin 1024) :
    k0_pay4 (F := Ideal) v x1 x3 x4 (ix2 a b)
      = v (ix2 a b) * x1 (ix2 a 0) * x3 (ix2 0 b) + x4 (ix2 a b) := by
  pointwise [k0_pay4]

/-! ### The input blocks at an entry -/

variable (m : (ℓ : Loc nD τ sig) → Buf (Elt Ideal) ℓ)

/-- The activations as the region finds them, at row `r` and position `k` (zero outside the array). -/
def X (c : Dev nD) (r k : ℕ) : EReal :=
  if h : r < 12288 ∧ k < 20480 then (V m c main_v0 : Vec Ideal S12288x20480 .fp8e4m3) (ix2 ⟨r, h.1⟩ ⟨k, h.2⟩) else 0

/-- The row scales, at row `r`. -/
def XS (c : Dev nD) (r : ℕ) : EReal :=
  if h : r < 12288 then (V m c main_v1 : Vec Ideal S12288x1 .f32) (ix2 ⟨r, h⟩ 0) else 0

/-- The weights, at position `k` and column `q`. -/
def W (c : Dev nD) (k q : ℕ) : EReal :=
  if h : k < 20480 ∧ q < 7168 then (V m c main_arg2 : Vec Ideal S20480x7168 .fp8e4m3) (ix2 ⟨k, h.1⟩ ⟨q, h.2⟩) else 0

/-- The column scales, at column `q`. -/
def WS (c : Dev nD) (q : ℕ) : EReal :=
  if h : q < 7168 then (V m c main_v2 : Vec Ideal S1x7168 .f32) (ix2 0 ⟨q, h⟩) else 0

/-- The residual, at row `r` and column `q`. -/
def R (c : Dev nD) (r q : ℕ) : EReal :=
  if h : r < 12288 ∧ q < 7168 then (V m c main_v3 : Vec Ideal S12288x7168 .bf16) (ix2 ⟨r, h.1⟩ ⟨q, h.2⟩) else 0

/-- Which block of each array a grid point works on. -/
theorem idx_facts : ∀ t : Fin cfg0.N,
    (win0_0.index t (0 : Fin 2) = t.val / 70 ∧ win0_0.index t (1 : Fin 2) = t.val % 10)
    ∧ (win0_1.index t (0 : Fin 2) = t.val / 70 ∧ win0_1.index t (1 : Fin 2) = 0)
    ∧ (win0_2.index t (0 : Fin 2) = t.val % 10 ∧ win0_2.index t (1 : Fin 2) = t.val / 10 % 7)
    ∧ (win0_3.index t (0 : Fin 2) = 0 ∧ win0_3.index t (1 : Fin 2) = t.val / 10 % 7)
    ∧ (win0_4.index t (0 : Fin 2) = t.val / 70 ∧ win0_4.index t (1 : Fin 2) = t.val / 10 % 7)
    ∧ (win0_5.index t (0 : Fin 2) = t.val / 70 ∧ win0_5.index t (1 : Fin 2) = t.val / 10 % 7) :=
  (by decide +kernel : ∀ t : Fin grid0.N, _)

/-- The grid has 840 points. -/
theorem lt_N (t : Fin cfg0.N) : t.val < 840 := lt_of_lt_of_eq t.isLt N_0

theorem blk0_apply (c : Dev nD) (t : Fin cfg0.N) (a : Fin 1024) (k : Fin 2048) :
    (iblk m c 0 t : Vec Ideal S1024x2048 .fp8e4m3) (ix2 a k) = X m c (t.val / 70 * 1024 + a.val) (t.val % 10 * 2048 + k.val) := by
  have ht := lt_N t
  obtain ⟨⟨e0, e1⟩, -⟩ := idx_facts t
  unfold X
  rw [dif_pos ⟨by omega, by omega⟩]
  unfold iblk
  rw [View.read_apply]
  show V m c main_v0 _ = V m c main_v0 _
  congr 1; funext d; apply Fin.ext
  match d with
  | ⟨0, _⟩ => show win0_0.index t 0 * 1024 + 1 * a.val = _; rw [e0, one_mul]; rfl
  | ⟨1, _⟩ => show win0_0.index t 1 * 2048 + 1 * k.val = _; rw [e1, one_mul]; rfl

theorem blk1_apply (c : Dev nD) (t : Fin cfg0.N) (a : Fin 1024) :
    (iblk m c 1 t : Vec Ideal S1024x1 .f32) (ix2 a 0) = XS m c (t.val / 70 * 1024 + a.val) := by
  have ht := lt_N t
  obtain ⟨-, ⟨e0, e1⟩, -⟩ := idx_facts t
  unfold XS
  rw [dif_pos (by omega)]
  unfold iblk
  rw [View.read_apply]
  show V m c main_v1 _ = V m c main_v1 _
  congr 1; funext d; apply Fin.ext
  match d with
  | ⟨0, _⟩ => show win0_1.index t 0 * 1024 + 1 * a.val = _; rw [e0, one_mul]; rfl
  | ⟨1, _⟩ => show win0_1.index t 1 * 1 + 1 * 0 = _; rw [e1]; rfl

theorem blk2_apply (c : Dev nD) (t : Fin cfg0.N) (k : Fin 2048) (b : Fin 1024) :
    (iblk m c 2 t : Vec Ideal S2048x1024 .fp8e4m3) (ix2 k b) = W m c (t.val % 10 * 2048 + k.val) (t.val / 10 % 7 * 1024 + b.val) := by
  have ht := lt_N t
  obtain ⟨-, -, ⟨e0, e1⟩, -⟩ := idx_facts t
  unfold W
  rw [dif_pos ⟨by omega, by omega⟩]
  unfold iblk
  rw [View.read_apply]
  show V m c main_arg2 _ = V m c main_arg2 _
  congr 1; funext d; apply Fin.ext
  match d with
  | ⟨0, _⟩ => show win0_2.index t 0 * 2048 + 1 * k.val = _; rw [e0, one_mul]; rfl
  | ⟨1, _⟩ => show win0_2.index t 1 * 1024 + 1 * b.val = _; rw [e1, one_mul]; rfl

theorem blk3_apply (c : Dev nD) (t : Fin cfg0.N) (b : Fin 1024) :
    (iblk m c 3 t : Vec Ideal S1x1024 .f32) (ix2 0 b) = WS m c (t.val / 10 % 7 * 1024 + b.val) := by
  have ht := lt_N t
  obtain ⟨-, -, -, ⟨e0, e1⟩, -⟩ := idx_facts t
  unfold WS
  rw [dif_pos (by omega)]
  unfold iblk
  rw [View.read_apply]
  show V m c main_v2 _ = V m c main_v2 _
  congr 1; funext d; apply Fin.ext
  match d with
  | ⟨0, _⟩ => show win0_3.index t 0 * 1 + 1 * 0 = _; rw [e0]; rfl
  | ⟨1, _⟩ => show win0_3.index t 1 * 1024 + 1 * b.val = _; rw [e1, one_mul]; rfl

theorem blk4_apply (c : Dev nD) (t : Fin cfg0.N) (a b : Fin 1024) :
    (iblk m c 4 t : Vec Ideal S1024x1024 .bf16) (ix2 a b) = R m c (t.val / 70 * 1024 + a.val) (t.val / 10 % 7 * 1024 + b.val) := by
  have ht := lt_N t
  obtain ⟨-, -, -, -, ⟨e0, e1⟩, -⟩ := idx_facts t
  unfold R
  rw [dif_pos ⟨by omega, by omega⟩]
  unfold iblk
  rw [View.read_apply]
  show V m c main_v3 _ = V m c main_v3 _
  congr 1; funext d; apply Fin.ext
  match d with
  | ⟨0, _⟩ => show win0_4.index t 0 * 1024 + 1 * a.val = _; rw [e0, one_mul]; rfl
  | ⟨1, _⟩ => show win0_4.index t 1 * 1024 + 1 * b.val = _; rw [e1, one_mul]; rfl

/-! ### The accumulator -/

/-- The products at row `r` and column `q`, summed over the first `n` positions of the contracted axis. -/
def part (c : Dev nD) (r q n : ℕ) : EReal := ∑ k ∈ Finset.range n, X m c r k * W m c k q

/-- The products of point `t`'s 2048 positions, summed, at entry `(a, b)` of its block. -/
def prd (c : Dev nD) (t : Fin cfg0.N) (a b : Fin 1024) : EReal :=
  ∑ k : Fin 2048, X m c (t.val / 70 * 1024 + a.val) (t.val % 10 * 2048 + k.val)
    * W m c (t.val % 10 * 2048 + k.val) (t.val / 10 % 7 * 1024 + b.val)

/-- They extend the sum over the positions before the point to the sum including the point's. -/
theorem part_step (c : Dev nD) (t : Fin cfg0.N) (a b : Fin 1024) :
    part m c (t.val / 70 * 1024 + a.val) (t.val / 10 % 7 * 1024 + b.val) (t.val % 10 * 2048) + prd m c t a b
      = part m c (t.val / 70 * 1024 + a.val) (t.val / 10 % 7 * 1024 + b.val) ((t.val % 10 + 1) * 2048) := by
  unfold part prd
  rw [Nat.succ_mul, Finset.sum_range_add, Finset.sum_range (n := 2048)]

/-- The first point of a run stores the point's products. -/
theorem pay2_blk (c : Dev nD) (t : Fin cfg0.N) (a b : Fin 1024) :
    k0_pay2 (F := Ideal) (iblk m c 0 t) (iblk m c 2 t) (ix2 a b) = prd m c t a b := by
  rw [pay2_apply]; unfold prd
  refine Finset.sum_congr rfl fun k _ => ?_
  rw [← blk0_apply, ← blk2_apply]

/-- A later point of a run adds the point's products to what the accumulator held. -/
theorem pay3_blk (c : Dev nD) (t : Fin cfg0.N) (v : Vec Ideal S1024x1024 .f32) (a b : Fin 1024) :
    k0_pay3 (F := Ideal) (iblk m c 0 t) (iblk m c 2 t) v (ix2 a b) = (v (ix2 a b) : EReal) + prd m c t a b := by
  rw [pay3_apply]; unfold prd
  refine congrArg (fun z : EReal => v (ix2 a b) + z) (Finset.sum_congr rfl fun k _ => ?_)
  rw [← blk0_apply, ← blk2_apply]

/-- After the first point of a run the accumulator holds the point's products. -/
theorem acc_first (c : Dev nD) (t : Fin cfg0.N) (h0 : t.val % 10 = 0) (a b : Fin 1024) :
    (outsAt0 m c t.val t.isLt).2 (ix2 a b) = prd m c t a b := by
  rw [outsAt0_A m c t h0 (by omega) (by omega)]
  dsimp only
  rw [acc_A, pay2_blk]

/-- After a later point of a run it holds what it held before plus the point's products. -/
theorem acc_later (c : Dev nD) (t : Fin cfg0.N) (h0 : ¬t.val % 10 = 0) (a b : Fin 1024) :
    (outsAt0 m c t.val t.isLt).2 (ix2 a b)
      = ((outsAt0 m c (t.val - 1) (Nat.lt_of_le_of_lt (Nat.sub_le _ _) t.isLt)).2 (ix2 a b) : EReal) + prd m c t a b := by
  by_cases h2 : t.val % 10 = 9
  · rw [outsAt0_C m c t h0 (by omega) h2]
    dsimp only
    rw [acc_C, pay3_blk]
  · rw [outsAt0_B m c t h0 (by omega) h2]
    dsimp only
    rw [acc_B, pay3_blk]

/-- After point `n` the accumulator holds, at entry `(a, b)`, the sum over every position up to and including the point's. -/
theorem acc_eq (c : Dev nD) (a b : Fin 1024) : ∀ (n : ℕ) (h : n < cfg0.N),
    (outsAt0 m c n h).2 (ix2 a b)
      = part m c (n / 70 * 1024 + a.val) (n / 10 % 7 * 1024 + b.val) ((n % 10 + 1) * 2048) := by
  intro n
  induction n with
  | zero =>
    intro h
    refine (acc_first m c ⟨0, h⟩ rfl a b).trans (Eq.trans ?_ (part_step m c ⟨0, h⟩ a b))
    show _ = part m c _ _ (0 % 10 * 2048) + _
    rw [show 0 % 10 * 2048 = 0 from rfl, part, Finset.sum_range_zero, zero_add]
  | succ n ih =>
    intro h
    by_cases h0 : (n + 1) % 10 = 0
    · refine (acc_first m c ⟨n + 1, h⟩ h0 a b).trans (Eq.trans ?_ (part_step m c ⟨n + 1, h⟩ a b))
      show _ = part m c _ _ ((n + 1) % 10 * 2048) + _
      rw [h0, zero_mul, part, Finset.sum_range_zero, zero_add]
    · have e : part m c (n / 70 * 1024 + a.val) (n / 10 % 7 * 1024 + b.val) ((n % 10 + 1) * 2048)
          = part m c ((n + 1) / 70 * 1024 + a.val) ((n + 1) / 10 % 7 * 1024 + b.val) ((n + 1) % 10 * 2048) := by
        rw [show (n + 1) / 70 = n / 70 by omega, show (n + 1) / 10 = n / 10 by omega, show (n + 1) % 10 = n % 10 + 1 by omega]
      refine (acc_later m c ⟨n + 1, h⟩ h0 a b).trans (Eq.trans ?_ (part_step m c ⟨n + 1, h⟩ a b))
      exact congrArg (fun z : EReal => z + prd m c ⟨n + 1, h⟩ a b) ((ih (Nat.lt_of_succ_lt h)).trans e)

/-- The result at row `r` and column `q`: the whole sum of products, scaled by row and by column, plus the residual. -/
def full (c : Dev nD) (r q : ℕ) : EReal := part m c r q 20480 * XS m c r * WS m c q + R m c r q

/-- The last point of a run leaves in the output block, at entry `(a, b)`, the result at the block's row and column. -/
theorem out_eq (c : Dev nD) (t : Fin cfg0.N) (h2 : t.val % 10 = 9) (a b : Fin 1024) :
    (outsAt0 m c t.val t.isLt).1 (ix2 a b) = full m c (t.val / 70 * 1024 + a.val) (t.val / 10 % 7 * 1024 + b.val) := by
  have h := acc_eq m c a b t.val t.isLt
  rw [outsAt0_C m c t (by omega) (by omega) h2] at h ⊢
  dsimp only at h ⊢
  rw [acc_C] at h
  rw [out_C, pay4_apply, h, blk1_apply, blk3_apply, blk4_apply, h2]
  rfl

end Cert.KernelIdeal.Hand

end
-- ==== Proof.KernelValue.lean ====
/-
  The kernel's run at the ideal instance, read: the result buffer ends at one function of the
  arguments, and the arguments end as launched.
-/
module

public import proofs.«01_k».proof.Proof.KernelAcc

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-! ### The region's output array -/

/-- The output array after the region. -/
def out2 (c : Dev nD) : Buf (Elt Ideal) ((c : Thread nD τ).loc main_v4) := fun i => full m c (i 0).val (i 1).val

/-- What a flushing point writes back is its block of `out2`. -/
theorem flushed_eq (c : Dev nD) (t : Fin cfg0.N) (hf : (cfg0.win 5).flush t = true) :
    (dats m 0 c).flushed 5 t = ((cfg0.win 5).blk t).view.read (Elt Ideal) (out2 m c) := by
  show (cfg0.win 5).cut (grid0.coords t) ((dats m 0 c).after 5 t) = _
  rw [after0_5]
  have hm : t.val % 10 = 9 := (flush0_5 t).mp hf
  obtain ⟨-, -, -, -, -, ⟨e0, e1⟩⟩ := idx_facts t
  funext y
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  have hy : (cfg0.win 5).xinj (grid0.coords t) y = (ix2 (⟨(y 0).val, (y 0).isLt⟩ : Fin 1024) (⟨(y 1).val, (y 1).isLt⟩ : Fin 1024) : S1024x1024.Idx) := by
    funext a; apply Fin.ext
    match a with
    | ⟨0, _⟩ => rfl
    | ⟨1, _⟩ => rfl
  show (outsAt0 m c t.val t.isLt).1 ((cfg0.win 5).xinj (grid0.coords t) y) = out2 m c (((cfg0.win 5).blk t).view.emb y)
  refine (congrArg (outsAt0 m c t.val t.isLt).1 hy).trans ((out_eq m c t hm _ _).trans ?_)
  unfold out2
  rw [hb0, hb1, e0, e1, one_mul, one_mul]

/-- An index of the array is in point `t`'s block exactly when each coordinate is in the block's range on its axis. -/
theorem mem_blk (t : Fin cfg0.N) (i : S12288x7168.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4).slice (win0_5.rect t)).set ↔ _
  rw [View.set_slice_whole, Rect.mem_set_unit]
  exact Iff.rfl

/-- Every index of the array is in the block of a flushing point. -/
theorem covered (i : S12288x7168.Idx) :
    ∃ t : Fin cfg0.N, (cfg0.win 5).flush t = true ∧ i ∈ ((cfg0.win 5).blk t).view.set := by
  have h0 : (i 0).val < 12288 := (i 0).isLt
  have h1 : (i 1).val < 7168 := (i 1).isLt
  let t : Fin cfg0.N := ⟨10 * (7 * ((i 0).val / 1024) + (i 1).val / 1024) + 9, lt_of_lt_of_eq (by omega) N_0.symm⟩
  have ht : t.val = 10 * (7 * ((i 0).val / 1024) + (i 1).val / 1024) + 9 := rfl
  obtain ⟨-, -, -, -, -, ⟨e0, e1⟩⟩ := idx_facts t
  refine ⟨t, (flush0_5 t).mpr (by omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The output array ends at `out2`. -/
theorem final (c : Dev nD) : (dats m 0 c).arrAt 5 cfg0.N = out2 m c :=
  (dats m 0 c).arrAt_eq_of_cover 5 _ (fun t hf => flushed_eq m c t hf) covered

/-! ### The reshapes around the region -/

/-- The region finds the activations with the batch and sequence axes merged, -/
theorem V_v0 (c : Dev nD) : (V m c main_v0 : Vec Ideal S12288x20480 .fp8e4m3)
    = shapeCast S12288x20480 (m ((c : Thread nD τ).loc main_arg0) : Vec Ideal S2x6144x20480 .fp8e4m3) shapeCasts_S2x6144x20480_S12288x20480 := by
  show StableHlo.after (List.flatten [hostOps0]) (fun b => m (c, b)) (Proc.devRef .tc main_v0) = _
  simp only [List.flatten_cons, List.flatten_nil, List.append_nil]
  after_results
  rfl

/-- the row scales likewise, -/
theorem V_v1 (c : Dev nD) : (V m c main_v1 : Vec Ideal S12288x1 .f32)
    = shapeCast S12288x1 (m ((c : Thread nD τ).loc main_arg1) : Vec Ideal S2x6144x1 .f32) shapeCasts_S2x6144x1_S12288x1 := by
  show StableHlo.after (List.flatten [hostOps0]) (fun b => m (c, b)) (Proc.devRef .tc main_v1) = _
  simp only [List.flatten_cons, List.flatten_nil, List.append_nil]
  after_results
  rfl

/-- the column scales as one row, -/
theorem V_v2 (c : Dev nD) : (V m c main_v2 : Vec Ideal S1x7168 .f32)
    = shapeCast S1x7168 (m ((c : Thread nD τ).loc main_arg3) : Vec Ideal S7168 .f32) shapeCasts_S7168_S1x7168 := by
  show StableHlo.after (List.flatten [hostOps0]) (fun b => m (c, b)) (Proc.devRef .tc main_v2) = _
  simp only [List.flatten_cons, List.flatten_nil, List.append_nil]
  after_results
  rfl

/-- the residual with the batch and sequence axes merged. -/
theorem V_v3 (c : Dev nD) : (V m c main_v3 : Vec Ideal S12288x7168 .bf16)
    = shapeCast S12288x7168 (m ((c : Thread nD τ).loc main_arg4) : Vec Ideal S2x6144x7168 .bf16) shapeCasts_S2x6144x7168_S12288x7168 := by
  show StableHlo.after (List.flatten [hostOps0]) (fun b => m (c, b)) (Proc.devRef .tc main_v3) = _
  simp only [List.flatten_cons, List.flatten_nil, List.append_nil]
  after_results
  rfl

/-- The result: the output array with its rows split into batch and sequence. -/
def out3 (c : Dev nD) : Buf (Elt Ideal) ((c : Thread nD τ).loc main_v5) :=
  shapeCast S2x6144x7168 (out2 m c : Vec Ideal S12288x7168 .bf16) shapeCasts_S12288x7168_S2x6144x7168

/-- The reshape after the region leaves it in the result buffer. -/
theorem tail_eq (c : Dev nD) :
    Pipeline.afterTail₀ cfgs (dats m) 0 (V0 m) [hostOps1] c main_v5 = out3 m c := by
  unfold Pipeline.afterTail₀
  have hw : Pipeline.withArrays (cfgs 0).spec c (V0 m c) (fun w => (dats m 0 c).arrAt w (cfgs 0).N) (Proc.devRef .tc main_v4)
      = out2 m c :=
    (Pipeline.withArrays_arr (cfgs 0).spec launch0.win.arr_inj c (V0 m c) (fun w => (dats m 0 c).arrAt w (cfgs 0).N) 5).trans (final m c)
  generalize Pipeline.withArrays (cfgs 0).spec c (V0 m c) (fun w => (dats m 0 c).arrAt w (cfgs 0).N) = X at hw ⊢
  simp only [List.flatten_cons, List.flatten_nil, List.append_nil]
  after_results
  unfold out3
  rw [← hw]
  rfl

/-! ### The run -/

/-- Every run ends with the result buffer at `out3` and the arguments as launched. -/
theorem run : θ_run defs (onTc (τ := τ) (main (F := Ideal))) ⟨m, fun _ => 0, ρ⟩ fun r => ∀ c : Dev nD,
      r.2.mem ((c : Thread nD τ).loc main_v5) = out3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ### The result, as a function of the arguments -/

section
variable (b : Fin 2) (s : Fin 6144)

/-- The row of the merged arrays that holds batch `b`, position `s`. -/
def row : Fin 12288 := ⟨b.val * 6144 + s.val, by omega⟩

/-- The activations, merged, at that row. -/
theorem cast_x (x : Vec Ideal S2x6144x20480 .fp8e4m3) (k : Fin 20480) :
    shapeCast S12288x20480 x shapeCasts_S2x6144x20480_S12288x20480 (ix2 (row b s) k) = x (ix3 b s k) := by
  pointwise
  congr 2 <;> apply Fin.ext <;> simp only [row] <;> omega

/-- The row scales, merged, at that row. -/
theorem cast_xs (x : Vec Ideal S2x6144x1 .f32) :
    shapeCast S12288x1 x shapeCasts_S2x6144x1_S12288x1 (ix2 (row b s) 0) = x (ix3 b s 0) := by
  pointwise
  congr 2 <;> apply Fin.ext <;> simp only [row] <;> omega

/-- The column scales, as one row. -/
theorem cast_ws (x : Vec Ideal S7168 .f32) (n : Fin 7168) :
    shapeCast S1x7168 x shapeCasts_S7168_S1x7168 (ix2 0 n) = x (ix1 n) := by
  pointwise

/-- The residual, merged, at that row. -/
theorem cast_r (x : Vec Ideal S2x6144x7168 .bf16) (n : Fin 7168) :
    shapeCast S12288x7168 x shapeCasts_S2x6144x7168_S12288x7168 (ix2 (row b s) n) = x (ix3 b s n) := by
  pointwise
  congr 2 <;> apply Fin.ext <;> simp only [row] <;> omega

/-- The output array, split, at batch `b` and position `s`. -/
theorem cast_y (x : Vec Ideal S12288x7168 .bf16) (n : Fin 7168) :
    shapeCast S2x6144x7168 x shapeCasts_S12288x7168_S2x6144x7168 (ix3 b s n) = x (ix2 (row b s) n) := by
  pointwise [row]

end

/-- The result at batch `b`, position `s` and column `n`: the row of activations times the column of weights, scaled by
    the row's and the column's scale, plus the residual. -/
theorem out3_apply (c : Dev nD) (a0 : Vec Ideal S2x6144x20480 .fp8e4m3) (a1 : Vec Ideal S2x6144x1 .f32)
    (a2 : Vec Ideal S20480x7168 .fp8e4m3) (a3 : Vec Ideal S7168 .f32) (a4 : Vec Ideal S2x6144x7168 .bf16)
    (h0 : m ((c : Thread nD τ).loc main_arg0) = a0) (h1 : m ((c : Thread nD τ).loc main_arg1) = a1)
    (h2 : m ((c : Thread nD τ).loc main_arg2) = a2) (h3 : m ((c : Thread nD τ).loc main_arg3) = a3)
    (h4 : m ((c : Thread nD τ).loc main_arg4) = a4) (b : Fin 2) (s : Fin 6144) (n : Fin 7168) :
    (out3 m c : Vec Ideal S2x6144x7168 .bf16) (ix3 b s n)
      = (∑ k : Fin 20480, a0 (ix3 b s k) * a2 (ix2 k n)) * a1 (ix3 b s 0) * a3 (ix1 n) + a4 (ix3 b s n) := by
  have l : (out3 m c : Vec Ideal S2x6144x7168 .bf16) (ix3 b s n) = full m c (row b s).val n.val :=
    cast_y b s (out2 m c) n
  have x : ∀ k : Fin 20480, X m c (row b s).val k.val = a0 (ix3 b s k) := fun k => by
    unfold X; rw [dif_pos ⟨(row b s).isLt, k.isLt⟩, V_v0, h0]
    exact cast_x b s a0 k
  have xs : XS m c (row b s).val = a1 (ix3 b s 0) := by
    unfold XS; rw [dif_pos (row b s).isLt, V_v1, h1]
    exact cast_xs b s a1
  have w : ∀ k : Fin 20480, W m c k.val n.val = a2 (ix2 k n) := fun k => by
    unfold W; rw [dif_pos ⟨k.isLt, n.isLt⟩, V_main_arg2, h2]
  have ws : WS m c n.val = a3 (ix1 n) := by
    unfold WS; rw [dif_pos n.isLt, V_v2, h3]
    exact cast_ws a3 n
  have rr : R m c (row b s).val n.val = a4 (ix3 b s n) := by
    unfold R; rw [dif_pos ⟨(row b s).isLt, n.isLt⟩, V_v3, h4]
    exact cast_r b s a4 n
  rw [l]
  unfold full part
  rw [Finset.sum_range]
  simp only [x, xs, w, ws, rr]

end Cert.KernelIdeal.Hand

end
-- ==== Proof.RefValue.lean ====
/-
  The reference's result at the ideal instance, entry by entry.
-/
module

public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen Idealize.ShloMosaic
open scoped BigOperators

/-- The result at batch `b`, position `s` and column `n`: the row of activations times the column of weights, scaled by
    the row's and the column's scale, plus the residual. -/
theorem G5_apply (a0 : Vec Ideal S2x6144x20480 .fp8e4m3) (a1 : Vec Ideal S2x6144x1 .f32)
    (a2 : Vec Ideal S20480x7168 .fp8e4m3) (a3 : Vec Ideal S7168 .f32) (a4 : Vec Ideal S2x6144x7168 .bf16)
    (b : Fin 2) (s : Fin 6144) (n : Fin 7168) :
    Value.G5 (F := Ideal) a0 a1 a2 a3 a4 (ix3 b s n)
      = (∑ k : Fin 20480, a0 (ix3 b s k) * a2 (ix2 k n)) * a1 (ix3 b s 0) * a3 (ix1 n) + a4 (ix3 b s n) := by
  pointwise [Value.G5, k0_pay1]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- On the same arguments the kernel's result and the reference's are one array: entry by entry both are the row of
    activations times the column of weights, scaled by the row's and the column's scale, plus the residual. -/
theorem value_eq (m : (ℓ : Loc Cert.KernelIdeal.nD Cert.KernelIdeal.τ Cert.KernelIdeal.sig) → Buf (Elt Ideal) ℓ)
    (c : Dev Cert.KernelIdeal.nD) :
    Cert.ReferenceIdeal.Value.G5 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Hand.out3 m c := by
  funext j
  obtain ⟨b, s, n, rfl⟩ : ∃ (b : Fin 2) (s : Fin 6144) (n : Fin 7168), j = ix3 b s n := ⟨j 0, j 1, j 2, eq_ix3 j⟩
  exact (Cert.ReferenceIdeal.Hand.G5_apply _ _ _ _ _ b s n).trans
    (Cert.KernelIdeal.Hand.out3_apply m c _ _ _ _ _ rfl rfl rfl rfl rfl b s n).symm

/-- The kernel and the reference, run on the same arguments over the extended reals, end with the same result. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Hand.out3 m c, Cert.KernelIdeal.Hand.run m g, ?_⟩
  refine (θ_run (Cert.ReferenceIdeal.defs (F := Ideal)) _ _).mono (fun r hr c => ⟨?_, (hr c).2⟩)
    (Cert.ReferenceIdeal.Value.run m' g')
  obtain ⟨h0, h1, h2, h3, h4⟩ := h c
  refine (hr c).1.trans ?_
  rw [h0, h1, h2, h3, h4]
  exact value_eq m c

/-- All five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
